-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_indices_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x1024 : Shape := ⟨2, ![32768, 1024]⟩
abbrev S64x1024 : Shape := ⟨2, ![64, 1024]⟩
abbrev S_ : Shape := ⟨0, ![]⟩

class Facts : Prop where
  bcast_S_S32768x1024 : S_.BroadcastsInDim S32768x1024 (![] : Fin 0 → Fin S32768x1024.rank)
  bcast_S_S64x1024 : S_.BroadcastsInDim S64x1024 (![] : Fin 0 → Fin S64x1024.rank)
  reducesTo_S32768x1024_S_d0_1 : S32768x1024.ReducesTo [0, 1] S_
  h_S_ : 0 < S_.numel
  reducesTo_S64x1024_S_d0_1 : S64x1024.ReducesTo [0, 1] S_

variable [Facts]

def fn {F : FTy → Type} [FloatOps F] (main_arg0 : FVec F S32768x1024 .f32) (main_arg1 : FVec F S64x1024 .f32) : IVec S_ 1 :=
  let main_cst : FVec F S_ .f32 := constant S_ .f32 0xFF800000#32
  let main_v0 : FVec F S32768x1024 .f32 := broadcastInDim S32768x1024 ![] bcast_S_S32768x1024 main_cst
  let main_v1 : IVec S32768x1024 1 := cmpf .ogt main_arg0 main_v0
  let main_cst_0 : FVec F S_ .f32 := constant S_ .f32 0x7F800000#32
  let main_v2 : FVec F S32768x1024 .f32 := broadcastInDim S32768x1024 ![] bcast_S_S32768x1024 main_cst_0
  let main_v3 : IVec S32768x1024 1 := cmpf .olt main_arg0 main_v2
  let main_v4 : IVec S32768x1024 1 := andi main_v1 main_v3
  let main_cst_1 : FVec F S_ .f32 := constant S_ .f32 0xFF800000#32
  let main_v5 : FVec F S64x1024 .f32 := broadcastInDim S64x1024 ![] bcast_S_S64x1024 main_cst_1
  let main_v6 : IVec S64x1024 1 := cmpf .ogt main_arg1 main_v5
  let main_cst_2 : FVec F S_ .f32 := constant S_ .f32 0x7F800000#32
  let main_v7 : FVec F S64x1024 .f32 := broadcastInDim S64x1024 ![] bcast_S_S64x1024 main_cst_2
  let main_v8 : IVec S64x1024 1 := cmpf .olt main_arg1 main_v7
  let main_v9 : IVec S64x1024 1 := andi main_v6 main_v8
  let main_c : IVec S_ 1 := constantI S_ 1 1#1
  let main_v10 : IVec S_ 1 := (fun x v => Host.reduce IntOp.andi x v reducesTo_S32768x1024_S_d0_1 h_S_) main_v4 main_c
  let main_c_3 : IVec S_ 1 := constantI S_ 1 1#1
  let main_v11 : IVec S_ 1 := (fun x v => Host.reduce IntOp.andi x v reducesTo_S64x1024_S_d0_1 h_S_) main_v9 main_c_3
  let main_v12 : IVec S_ 1 := andi main_v10 main_v11
  main_v12
-- ==== Kernel.lean ====
abbrev S32768x1024 : Shape := ⟨2, ![32768, 1024]⟩
abbrev S64x1024 : Shape := ⟨2, ![64, 1024]⟩
abbrev S1024x64 : Shape := ⟨2, ![1024, 64]⟩
abbrev S32768x8 : Shape := ⟨2, ![32768, 8]⟩
abbrev S2048x1024 : Shape := ⟨2, ![2048, 1024]⟩
abbrev S2048x8 : Shape := ⟨2, ![2048, 8]⟩
abbrev S2048x64 : Shape := ⟨2, ![2048, 64]⟩
abbrev S128x64 : Shape := ⟨2, ![128, 64]⟩
abbrev S64x128 : Shape := ⟨2, ![64, 128]⟩
abbrev S128 : Shape := ⟨1, ![128]⟩
abbrev S1x128 : Shape := ⟨2, ![1, 128]⟩
abbrev S8x8x128 : Shape := ⟨3, ![8, 8, 128]⟩
abbrev S8x128 : Shape := ⟨2, ![8, 128]⟩
abbrev S8x1x128 : Shape := ⟨3, ![8, 1, 128]⟩
abbrev S1x8x128 : Shape := ⟨3, ![1, 8, 128]⟩
abbrev S128x8 : Shape := ⟨2, ![128, 8]⟩

abbrev nBuf : Space → Nat
  | .hbm => 5
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S64x1024, .f32⟩
  | .hbm, ⟨2, _⟩ => ⟨S1024x64, .f32⟩
  | .hbm, ⟨3, _⟩ => ⟨S32768x8, .f32⟩
  | .hbm, ⟨4, _⟩ => ⟨S32768x8, .i32⟩
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S2048x8, .f32⟩
  | .local _ .vmem, ⟨4, _⟩ => ⟨S2048x8, .f32⟩
  | .local _ .vmem, ⟨5, _⟩ => ⟨S2048x8, .i32⟩
  | .local _ .vmem, ⟨6, _⟩ => ⟨S2048x8, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32768x1024 : Shape := ⟨2, ![32768, 1024]⟩
abbrev S64x1024 : Shape := ⟨2, ![64, 1024]⟩
abbrev S1024x64 : Shape := ⟨2, ![1024, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S32768x8x8 : Shape := ⟨3, ![32768, 8, 8]⟩
abbrev S32768x8 : Shape := ⟨2, ![32768, 8]⟩
abbrev S32768x4 : Shape := ⟨2, ![32768, 4]⟩
abbrev S8 : Shape := ⟨1, ![8]⟩
abbrev S1x1x8 : Shape := ⟨3, ![1, 1, 8]⟩
abbrev S32768x4x1 : Shape := ⟨3, ![32768, 4, 1]⟩
abbrev S32768x4x8 : Shape := ⟨3, ![32768, 4, 8]⟩
abbrev S32768x8x1 : Shape := ⟨3, ![32768, 8, 1]⟩
abbrev S1 : Shape := ⟨1, ![1]⟩
abbrev S1x1x1 : Shape := ⟨3, ![1, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S64x1024, .f32⟩
  | .hbm, ⟨2, _⟩ => ⟨S1024x64, .f32⟩
  | .hbm, ⟨3, _⟩ => ⟨S32768x64, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768x1, .f32⟩
  | .hbm, ⟨10, _⟩ => ⟨S32768x64, .f32⟩
  | .hbm, ⟨11, _⟩ => ⟨S32768x64, .f32⟩
  | .hbm, ⟨12, _⟩ => ⟨S32768x64, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S32768x64, .f32⟩
  | .hbm, ⟨17, _⟩ => ⟨S32768x64, .f32⟩
  | .hbm, ⟨18, _⟩ => ⟨S32768x8x8, .f32⟩
  | .hbm, ⟨19, _⟩ => ⟨S_, .f32⟩
  | .hbm, ⟨20, _⟩ => ⟨S32768x8, .f32⟩
  | .hbm, ⟨21, _⟩ => ⟨S32768x4, .f32⟩
  | .hbm, ⟨22, _⟩ => ⟨S32768x4, .i32⟩
  | .hbm, ⟨23, _⟩ => ⟨S8, .i32⟩
  | .hbm, ⟨24, _⟩ => ⟨S1x1x8, .i32⟩
  | .hbm, ⟨25, _⟩ => ⟨S32768x4x1, .i32⟩
  | .hbm, ⟨26, _⟩ => ⟨S32768x4x8, .i32⟩
  | .hbm, ⟨27, _⟩ => ⟨S32768x4x8, .i32⟩
  | .hbm, ⟨28, _⟩ => ⟨S32768x4x8, .i1⟩
  | .hbm, ⟨29, _⟩ => ⟨S_, .i1⟩
  | .hbm, ⟨30, _⟩ => ⟨S32768x8, .i1⟩
  | .hbm, ⟨31, _⟩ => ⟨S32768x8x1, .i1⟩
  | .hbm, ⟨32, _⟩ => ⟨S_, .f32⟩
  | .hbm, ⟨33, _⟩ => ⟨S_, .f32⟩
  | .hbm, ⟨34, _⟩ => ⟨S32768x8x8, .i1⟩
  | .hbm, ⟨35, _⟩ => ⟨S32768x8x8, .f32⟩
  | .hbm, ⟨36, _⟩ => ⟨S32768x8x8, .f32⟩
  | .hbm, ⟨37, _⟩ => ⟨S32768x64, .f32⟩
  | .hbm, ⟨38, _⟩ => ⟨S32768x8, .f32⟩
  | .hbm, ⟨39, _⟩ => ⟨S32768x8, .i32⟩
  | .hbm, ⟨40, _⟩ => ⟨S_, .i32⟩
  | .hbm, ⟨41, _⟩ => ⟨S32768x8, .i32⟩
  | .hbm, ⟨42, _⟩ => ⟨S32768x8, .i1⟩
  | .hbm, ⟨43, _⟩ => ⟨S_, .i32⟩
  | .hbm, ⟨44, _⟩ => ⟨S32768x8, .i32⟩
  | .hbm, ⟨45, _⟩ => ⟨S32768x8, .i32⟩
  | .hbm, ⟨46, _⟩ => ⟨S32768x8, .i32⟩
  | .hbm, ⟨47, _⟩ => ⟨S32768x8x1, .i32⟩
  | .hbm, ⟨48, _⟩ => ⟨S1, .i32⟩
  | .hbm, ⟨49, _⟩ => ⟨S_, .i32⟩
  | .hbm, ⟨50, _⟩ => ⟨S32768x8x1, .i32⟩
  | .hbm, ⟨51, _⟩ => ⟨S32768x8x1, .i1⟩
  | .hbm, ⟨52, _⟩ => ⟨S1x1x1, .i32⟩
  | .hbm, ⟨53, _⟩ => ⟨S32768x8x1, .i32⟩
  | .hbm, ⟨54, _⟩ => ⟨S32768x8x1, .i1⟩
  | .hbm, ⟨55, _⟩ => ⟨S32768x8x1, .i1⟩
  | .hbm, ⟨56, _⟩ => ⟨S_, .i1⟩
  | .hbm, ⟨57, _⟩ => ⟨S32768x8, .i1⟩
  | .hbm, ⟨58, _⟩ => ⟨S32768x8, .f32⟩
  | .hbm, ⟨59, _⟩ => ⟨S_, .f32⟩
  | .hbm, ⟨60, _⟩ => ⟨S32768x8, .f32⟩
  | .hbm, ⟨61, _⟩ => ⟨S32768x8, .f32⟩
  | .hbm, ⟨62, _⟩ => ⟨S_, .f32⟩
  | .hbm, ⟨63, _⟩ => ⟨S32768x8, .f32⟩
  | .hbm, ⟨64, _⟩ => ⟨S32768x8, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v23 : Ref sig .tc := ⟨.hbm, 36, rfl⟩
abbrev main_v24 : Ref sig .tc := ⟨.hbm, 37, rfl⟩
abbrev main_values_4 : Ref sig .tc := ⟨.hbm, 38, rfl⟩
abbrev main_indices_5 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_cst : Ref sig .tc := ⟨.hbm, 59, rfl⟩
abbrev main_call1_v14 : Ref sig .tc := ⟨.hbm, 60, rfl⟩
abbrev main_v25 : Ref sig .tc := ⟨.hbm, 61, rfl⟩
abbrev main_cst_6 : Ref sig .tc := ⟨.hbm, 62, rfl⟩
abbrev main_v26 : Ref sig .tc := ⟨.hbm, 63, rfl⟩
abbrev main_v27 : Ref sig .tc := ⟨.hbm, 64, rfl⟩

abbrev nD : Nat := 1
abbrev τ : Topo := Topo.v7x

variable {F : FTy → Type} [FloatOps F]
-- ==== Proof.RefTerms.lean ====
/- The reference's results, stage by stage, as its run states them. -/
module

public import proofs.«01_k».proof.Proof.Gen.ReferenceIdeal.Run

@[expose] public section

set_option maxRecDepth 16384

noncomputable section

namespace Cert.ReferenceIdeal.Gate

open Cert.ReferenceIdeal Cert.ReferenceIdeal.Gen Idealize.ShloMosaic Idealize.ShloMosaic.TcCoe Idealize.SL.Sem

variable {F : FTy → Type} [FloatOps F]

/-- Every token's scores. -/
def scores (X : Vec F S32768x1024 .f32) (W : Vec F S64x1024 .f32) : FVec F S32768x64 .f32 :=
  Host.dotGeneral dot_S32768x1024_S1024x64_S32768x64_1_0_0_1_n_n none X (transpose S1024x64 [1, 0] W transposes_S64x1024_S1024x64_1_0)

/-- Every token's greatest score. -/
def greatest (s : FVec F S32768x64 .f32) : FVec F S32768 .f32 :=
  maximumf (broadcastInDim S32768 ![] bcast_S_S32768 (constant S_ .f32 0xFF800000#32))
    (Host.reduce FloatOps.maximumf s (constant S_ .f32 0xFF800000#32) reducesTo_S32768x64_S32768_d1 h_S_)

/-- The exponentials of the scores less each token's greatest. -/
def expo (s : FVec F S32768x64 .f32) : FVec F S32768x64 .f32 :=
  Host.exp (subf s (broadcastInDim S32768x64 ![0, 1] bcast_S32768x1_S32768x64_0_1 (broadcastInDim S32768x1 ![0] bcast_S32768_S32768x1_0 (greatest s))))

/-- The softmax. -/
def soft (s : FVec F S32768x64 .f32) : FVec F S32768x64 .f32 :=
  Host.divf (expo s) (broadcastInDim S32768x64 ![0, 1] bcast_S32768x1_S32768x64_0_1 (broadcastInDim S32768x1 ![0] bcast_S32768_S32768x1_0
    (Host.reduceAdd (expo s) (constant S_ .f32 0x00000000#32) reducesTo_S32768x64_S32768_d1 h_S_)))

/-- The greatest probability of each group. -/
def groupMax (p : FVec F S32768x64 .f32) : FVec F S32768x8 .f32 :=
  Host.reduce FloatOps.maximumf (shapeCast _ p shapeCasts_S32768x64_S32768x8x8) (constant S_ .f32 0xFF800000#32) reducesTo_S32768x8x8_S32768x8_d2 h_S_

/-- The four best groups' numbers. -/
def groups (g : FVec F S32768x8 .f32) : IVec S32768x4 32 :=
  (Host.topK S32768x4 1 (FloatOps.cmpfTotal .gt) g sliceFits_S32768x8_S32768x4).2

/-- Whether a group's number is among the four. -/
def listed (gi : IVec S32768x4 32) : IVec S32768x8 1 :=
  Host.reduce IntOp.ori (cmpi .eq (broadcastInDim S32768x4x8 ![0, 1, 2] bcast_S1x1x8_S32768x4x8_0_1_2 (broadcastInDim S1x1x8 ![2] bcast_S8_S1x1x8_2 (iotaInDim S8 32 0)))
    (broadcastInDim S32768x4x8 ![0, 1, 2] bcast_S32768x4x1_S32768x4x8_0_1_2 (broadcastInDim S32768x4x1 ![0, 1] bcast_S32768x4_S32768x4x1_0_1 gi)))
    (constantI S_ 1 0#1) reducesTo_S32768x4x8_S32768x8_d1 h_S_

/-- The probabilities of the listed groups' experts, `-∞` elsewhere. -/
def masked (l : IVec S32768x8 1) (p : FVec F S32768x64 .f32) : FVec F S32768x64 .f32 :=
  shapeCast _ (select (broadcastInDim S32768x8x8 ![0, 1, 2] bcast_S32768x8x1_S32768x8x8_0_1_2 (broadcastInDim S32768x8x1 ![0, 1] bcast_S32768x8_S32768x8x1_0_1 l))
    (shapeCast _ p shapeCasts_S32768x64_S32768x8x8) (broadcastInDim S32768x8x8 ![] bcast_S_S32768x8x8 (id (constant S_ .f32 0xFF800000#32))))
    shapeCasts_S32768x8x8_S32768x64

/-- The eight best experts' numbers. -/
def best (q : FVec F S32768x64 .f32) : IVec S32768x8 32 :=
  (Host.topK S32768x8 1 (FloatOps.cmpfTotal .gt) q sliceFits_S32768x64_S32768x8).2

/-- The experts' numbers with a negative one counted from the end. -/
def wrapped (i : IVec S32768x8 32) : IVec S32768x8x1 32 :=
  shapeCast _ (select (cmpi .slt i (broadcastInDim S32768x8 ![] bcast_S_S32768x8 (constantI S_ 32 0#32)))
    (addi i (broadcastInDim S32768x8 ![] bcast_S_S32768x8 (constantI S_ 32 64#32))) i) shapeCasts_S32768x8_S32768x8x1

/-- Whether a number is an expert's. -/
def inside (j : IVec S32768x8x1 32) : IVec S32768x8 1 :=
  Host.reduce IntOp.andi (andi (cmpi .sge j (broadcastInDim S32768x8x1 ![] bcast_S_S32768x8x1 (constantI S_ 32 0#32)))
    (cmpi .sle j (broadcastInDim S32768x8x1 ![0, 1, 2] bcast_S1x1x1_S32768x8x1_0_1_2 (broadcastInDim S1x1x1 ![2] bcast_S1_S1x1x1_2 (constantI S1 32 63#32)))))
    (constantI S_ 1 1#1) reducesTo_S32768x8x1_S32768x8_d2 h_S_

/-- The probabilities at the experts' numbers. -/
def taken (p : FVec F S32768x64 .f32) (j : IVec S32768x8x1 32) : FVec F S32768x8 .f32 :=
  Host.gather gather_S32768x64_S32768x8x1_S32768x8_n_1_0_0_1_2_11 p j

/-- The weights. -/
def weights (p : FVec F S32768x64 .f32) (j : IVec S32768x8x1 32) : FVec F S32768x8 .f32 :=
  mulf (select (inside j) (taken p j) (broadcastInDim S32768x8 ![] bcast_S_S32768x8 (constant S_ .f32 0x7FC00000#32)))
    (broadcastInDim S32768x8 ![] bcast_S_S32768x8 (constant S_ .f32 0x3F800000#32))

/-- The softmax of a launch's arguments. -/
def P (m : (ℓ : Loc nD τ sig) → Buf (Elt F) ℓ) (c : Dev nD) : FVec F S32768x64 .f32 :=
  soft (scores (m ((c : Thread nD τ).loc main_arg0)) (m ((c : Thread nD τ).loc main_arg1)))

/-- The experts of a launch's arguments. -/
def E (m : (ℓ : Loc nD τ sig) → Buf (Elt F) ℓ) (c : Dev nD) : IVec S32768x8 32 :=
  best (masked (listed (groups (groupMax (P m c)))) (P m c))

set_option maxHeartbeats 4000000 in
/-- The second result. -/
theorem out1_eq (m : (ℓ : Loc nD τ sig) → Buf (Elt F) ℓ) (c : Dev nD) : Value.res_out1 m c = E m c := rfl

set_option maxHeartbeats 4000000 in
/-- The first result. -/
theorem out0_eq (m : (ℓ : Loc nD τ sig) → Buf (Elt F) ℓ) (c : Dev nD) : Value.res_out0 m c = weights (P m c) (wrapped (E m c)) := rfl

end Cert.ReferenceIdeal.Gate

end
-- ==== Proof.Chunk.lean ====
/- One chunk of 128 tokens as the kernel routes it: its masked scores, the eight rounds, and the block's results as sixteen such chunks. -/
module

public import proofs.«01_k».proof.Proof.Gen.KernelIdeal.Value

@[expose] public section

noncomputable section

namespace Cert.KernelIdeal.Chunk

open Cert.KernelIdeal Cert.KernelIdeal.Gen Idealize.ShloMosaic Idealize.SL.Sem

variable {F : FTy → Type} [FloatOps F]

/-- The chunk's 128 rows of the block's scores from row `o` on, experts first. -/
def rows (s : FVec F S2048x64 .f32) (o : Nat) (h : S2048x64.Slices ![o, 0] S128x64) : FVec F S64x128 .f32 :=
  transpose S64x128 [1, 0] (extractStridedSlice S128x64 ![o, 0] s h) transposes_S128x64_p1_0_S64x128

/-- The exponentials of a chunk's scores less each token's greatest. -/
def expo (st : FVec F S64x128 .f32) : FVec F S64x128 .f32 :=
  exp (subf st (broadcastTo S64x128 (shapeCast S1x128 (multiReduction .maximumf [0] S128 st 0xFF800000#32 reduces_S64x128_S128 (.inl rfl) rfl)
    shapeCasts_S128_S1x128) broadcasts_S1x128_S64x128))

/-- A chunk's softmax over the experts. -/
def soft (st : FVec F S64x128 .f32) : FVec F S64x128 .f32 :=
  divf (expo st) (broadcastTo S64x128 (shapeCast S1x128 (multiReduction .add [0] S128 (expo st) 0x00000000#32 reduces_S64x128_S128 (.inl rfl) rfl)
    shapeCasts_S128_S1x128) broadcasts_S1x128_S64x128)

/-- The greatest probability of each group of eight experts. -/
def groupMax (p3 : FVec F S8x8x128 .f32) : FVec F S8x128 .f32 :=
  multiReduction .maximumf [1] S8x128 p3 0xFF800000#32 reduces_S8x8x128_S8x128 (.inl rfl) rfl

/-- Whether group `j` (second axis) goes before group `i` (first axis): a greater value, or the same value and a lower number. -/
def beats (g : FVec F S8x128 .f32) : IVec S8x8x128 1 :=
  ori (cmpf .ogt (broadcastTo S8x8x128 (shapeCast S1x8x128 g shapeCasts_S8x128_S1x8x128) broadcasts_S1x8x128_S8x8x128)
      (broadcastTo S8x8x128 (shapeCast S8x1x128 g shapeCasts_S8x128_S8x1x128) broadcasts_S8x1x128_S8x8x128))
    (andi (cmpf .oeq (broadcastTo S8x8x128 (shapeCast S1x8x128 g shapeCasts_S8x128_S1x8x128) broadcasts_S1x8x128_S8x8x128)
        (broadcastTo S8x8x128 (shapeCast S8x1x128 g shapeCasts_S8x128_S8x1x128) broadcasts_S8x1x128_S8x8x128))
      (cmpi .slt (iota .tc S8x8x128 32 [1] iota_S8x8x128_d1_w32) (iota .tc S8x8x128 32 [0] iota_S8x8x128_d0_w32)))

/-- How many groups go before each group. -/
def rank (g : FVec F S8x128 .f32) : IVec S8x128 32 :=
  multiReductionI .add [1] S8x128 (extui 32 (beats g) natLt_1_32) 0#32 reduces_S8x8x128_S8x128 rfl

/-- The probabilities of the four best groups' experts, `-∞` elsewhere. -/
def masked (st : FVec F S64x128 .f32) : FVec F S64x128 .f32 :=
  let p3 : FVec F S8x8x128 .f32 := shapeCast S8x8x128 (soft st) shapeCasts_S64x128_S8x8x128
  shapeCast S64x128 (select
    (broadcastTo S8x8x128 (shapeCast S8x1x128 (shapeCast S8x1x128 (cmpi .slt (rank (groupMax p3)) (broadcast S8x128 4#32)) shapeCasts_S8x128_S8x1x128)
      shapeCasts_S8x1x128_S8x1x128) broadcasts_S8x1x128_S8x8x128)
    p3 (broadcast S8x8x128 (Scalar.ofBits .f32 0xFF800000#32))) shapeCasts_S8x8x128_S64x128

/-- A round's greatest value per token. -/
def top (cur : FVec F S64x128 .f32) : FVec F S1x128 .f32 :=
  shapeCast S1x128 (multiReduction .maximumf [0] S128 cur 0xFF800000#32 reduces_S64x128_S128 (.inl rfl) rfl) shapeCasts_S128_S1x128

/-- The experts' numbers. -/
def eidx : IVec S64x128 32 := iota .tc S64x128 32 [0] iota_S64x128_d0_w32

/-- The least expert at which a round's greatest value is taken. -/
def arg (cur : FVec F S64x128 .f32) : IVec S1x128 32 :=
  shapeCast S1x128 (multiReductionI .minsi [0] S128
    (select (cmpf .oeq cur (broadcastTo S64x128 (top cur) broadcasts_S1x128_S64x128)) eidx (broadcast S64x128 64#32))
    2147483647#32 reduces_S64x128_S128 rfl) shapeCasts_S128_S1x128

/-- The values left after a round: the chosen expert's set to `-∞`. -/
def next (cur : FVec F S64x128 .f32) : FVec F S64x128 .f32 :=
  select (cmpi .eq eidx (broadcastTo S64x128 (arg cur) broadcasts_S1x128_S64x128)) (broadcast S64x128 (Scalar.ofBits .f32 0xFF800000#32)) cur

/-- The values before round `r`. -/
def left (st : FVec F S64x128 .f32) : Nat → FVec F S64x128 .f32
  | 0 => masked st
  | r + 1 => next (left st r)

/-- A chunk's weights, one row per token. -/
def wOut (st : FVec F S64x128 .f32) : FVec F S128x8 .f32 :=
  transpose S128x8 [1, 0] (concatenate S8x128 0 [⟨S1x128, top (left st 0)⟩, ⟨S1x128, top (left st 1)⟩, ⟨S1x128, top (left st 2)⟩, ⟨S1x128, top (left st 3)⟩,
    ⟨S1x128, top (left st 4)⟩, ⟨S1x128, top (left st 5)⟩, ⟨S1x128, top (left st 6)⟩, ⟨S1x128, top (left st 7)⟩]
    concatenates_S1x128_S1x128_S1x128_S1x128_S1x128_S1x128_S1x128_S1x128_S8x128_d0) transposes_S8x128_p1_0_S128x8

/-- A chunk's experts, one row per token. -/
def iOut (st : FVec F S64x128 .f32) : IVec S128x8 32 :=
  transpose S128x8 [1, 0] (concatenate S8x128 0 [⟨S1x128, arg (left st 0)⟩, ⟨S1x128, arg (left st 1)⟩, ⟨S1x128, arg (left st 2)⟩, ⟨S1x128, arg (left st 3)⟩,
    ⟨S1x128, arg (left st 4)⟩, ⟨S1x128, arg (left st 5)⟩, ⟨S1x128, arg (left st 6)⟩, ⟨S1x128, arg (left st 7)⟩]
    concatenates_S1x128_S1x128_S1x128_S1x128_S1x128_S1x128_S1x128_S1x128_S8x128_d0) transposes_S8x128_p1_0_S128x8

/-- A block's scores: its tokens against the experts. -/
def scores (x0 : Vec F S2048x1024 .f32) (x1 : Vec F S1024x64 .f32) : FVec F S2048x64 .f32 :=
  k0_pay5 (View.ld x0 r0_0) (View.ld x1 r0_1)

set_option maxRecDepth 20000 in
set_option maxHeartbeats 4000000 in
/-- What a point leaves of the weights: the sixteen chunks' results, the last first. -/
theorem out2_eq (x0 : Vec F S2048x1024 .f32) (x1 : Vec F S1024x64 .f32) :
    out0_2 x0 x1 = View.canon [
      ⟨r0_17, wOut (rows (scores x0 x1) 1920 slices_S2048x64_o1920_0_S128x64)⟩,
      ⟨r0_16, wOut (rows (scores x0 x1) 1792 slices_S2048x64_o1792_0_S128x64)⟩,
      ⟨r0_15, wOut (rows (scores x0 x1) 1664 slices_S2048x64_o1664_0_S128x64)⟩,
      ⟨r0_14, wOut (rows (scores x0 x1) 1536 slices_S2048x64_o1536_0_S128x64)⟩,
      ⟨r0_13, wOut (rows (scores x0 x1) 1408 slices_S2048x64_o1408_0_S128x64)⟩,
      ⟨r0_12, wOut (rows (scores x0 x1) 1280 slices_S2048x64_o1280_0_S128x64)⟩,
      ⟨r0_11, wOut (rows (scores x0 x1) 1152 slices_S2048x64_o1152_0_S128x64)⟩,
      ⟨r0_10, wOut (rows (scores x0 x1) 1024 slices_S2048x64_o1024_0_S128x64)⟩,
      ⟨r0_9, wOut (rows (scores x0 x1) 896 slices_S2048x64_o896_0_S128x64)⟩,
      ⟨r0_8, wOut (rows (scores x0 x1) 768 slices_S2048x64_o768_0_S128x64)⟩,
      ⟨r0_7, wOut (rows (scores x0 x1) 640 slices_S2048x64_o640_0_S128x64)⟩,
      ⟨r0_6, wOut (rows (scores x0 x1) 512 slices_S2048x64_o512_0_S128x64)⟩,
      ⟨r0_5, wOut (rows (scores x0 x1) 384 slices_S2048x64_o384_0_S128x64)⟩,
      ⟨r0_4, wOut (rows (scores x0 x1) 256 slices_S2048x64_o256_0_S128x64)⟩,
      ⟨r0_3, wOut (rows (scores x0 x1) 128 slices_S2048x64_o128_0_S128x64)⟩,
      ⟨r0_2, wOut (rows (scores x0 x1) 0 slices_S2048x64_o0_0_S128x64)⟩] := rfl

set_option maxRecDepth 20000 in
set_option maxHeartbeats 4000000 in
/-- What a point leaves of the experts: the sixteen chunks' results, the last first. -/
theorem out3_eq (x0 : Vec F S2048x1024 .f32) (x1 : Vec F S1024x64 .f32) :
    out0_3 x0 x1 = View.canon [
      ⟨r0_17, iOut (rows (scores x0 x1) 1920 slices_S2048x64_o1920_0_S128x64)⟩,
      ⟨r0_16, iOut (rows (scores x0 x1) 1792 slices_S2048x64_o1792_0_S128x64)⟩,
      ⟨r0_15, iOut (rows (scores x0 x1) 1664 slices_S2048x64_o1664_0_S128x64)⟩,
      ⟨r0_14, iOut (rows (scores x0 x1) 1536 slices_S2048x64_o1536_0_S128x64)⟩,
      ⟨r0_13, iOut (rows (scores x0 x1) 1408 slices_S2048x64_o1408_0_S128x64)⟩,
      ⟨r0_12, iOut (rows (scores x0 x1) 1280 slices_S2048x64_o1280_0_S128x64)⟩,
      ⟨r0_11, iOut (rows (scores x0 x1) 1152 slices_S2048x64_o1152_0_S128x64)⟩,
      ⟨r0_10, iOut (rows (scores x0 x1) 1024 slices_S2048x64_o1024_0_S128x64)⟩,
      ⟨r0_9, iOut (rows (scores x0 x1) 896 slices_S2048x64_o896_0_S128x64)⟩,
      ⟨r0_8, iOut (rows (scores x0 x1) 768 slices_S2048x64_o768_0_S128x64)⟩,
      ⟨r0_7, iOut (rows (scores x0 x1) 640 slices_S2048x64_o640_0_S128x64)⟩,
      ⟨r0_6, iOut (rows (scores x0 x1) 512 slices_S2048x64_o512_0_S128x64)⟩,
      ⟨r0_5, iOut (rows (scores x0 x1) 384 slices_S2048x64_o384_0_S128x64)⟩,
      ⟨r0_4, iOut (rows (scores x0 x1) 256 slices_S2048x64_o256_0_S128x64)⟩,
      ⟨r0_3, iOut (rows (scores x0 x1) 128 slices_S2048x64_o128_0_S128x64)⟩,
      ⟨r0_2, iOut (rows (scores x0 x1) 0 slices_S2048x64_o0_0_S128x64)⟩] := rfl

end Cert.KernelIdeal.Chunk

end
-- ==== Proof.Route.lean ====
/- The routing of one token as functions of its row of scores: stable selection of the greatest, by repeated maximum and by sorting. -/
module

public import Idealize.ShloMosaic.Lib.Pointwise
public import Idealize.ShloMosaic.Lib.SortPrefix

@[expose] public section

noncomputable section

namespace Cert.Route

open Idealize.ShloMosaic

/-! ## The sort a top-k reads -/

/-- Position `k` goes before `k'`: a greater value, or the same value and a lower position. -/
def before {n : Nat} (c : Fin n → EReal) (k k' : Fin n) : Bool :=
  decide (c k' < c k) || (decide (c k = c k') && decide (k < k'))

/-- What going before means. -/
theorem before_iff {n : Nat} (c : Fin n → EReal) (k k' : Fin n) : before c k k' = true ↔ c k' < c k ∨ c k = c k' ∧ k < k' := by
  simp [before]

/-- What not going before means. -/
theorem before_false_iff {n : Nat} (c : Fin n → EReal) (k k' : Fin n) : before c k k' = false ↔ ¬ (c k' < c k ∨ c k = c k' ∧ k < k') := by
  rw [← before_iff, Bool.not_eq_true]

/-- Going before is a strict total order of the positions. -/
theorem before_total {n : Nat} (c : Fin n → EReal) : StrictTotalBefore (before c) := by
  refine StrictTotalBefore.of_key_then_position (fun a b : EReal => decide (b < a)) c ?_ ?_ ?_
  · intro a; simp
  · intro a b d h1 h2
    simp only [decide_eq_true_eq] at *
    exact h2.trans h1
  · intro a b
    simp only [decide_eq_true_eq]
    rcases lt_trichotomy a b with h | h | h
    · exact .inr (.inr h)
    · exact .inr (.inl h)
    · exact .inl h

/-- On a list in ascending order of positions, the stable sort by value alone is the sort by value and then position. -/
theorem stableSort_value {n : Nat} (c : Fin n → EReal) (l : List (Fin n)) (hl : l.Pairwise (· < ·)) :
    stableSort (fun k k' => decide (c k' < c k)) l = stableSort (before c) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    have : ¬ b < a := fun h => absurd (h.trans hab) (lt_irrefl _)
    simp [before, this]

/-- The same of the sort's positions. -/
theorem sortedFrom_value {n : Nat} (c : Fin n → EReal) (k : Fin n) :
    sortedFrom (fun k k' => decide (c k' < c k)) k = sortedFrom (before c) k := by
  have h : sortPositions n (fun k k' => decide (c k' < c k)) = sortPositions n (before c) :=
    stableSort_value c _ (List.pairwise_lt_finRange n)
  unfold sortedFrom
  simp only [List.get_eq_getElem, Fin.val_cast]
  simp only [h]

/-- A greater sorted position is not before a lower one: `before` between sorted positions is `<`. -/
theorem before_sortedFrom {n : Nat} (c : Fin n → EReal) (i j : Fin n) :
    before c (sortedFrom (before c) i) (sortedFrom (before c) j) = true ↔ i < j := by
  have hB := before_total c
  have key : ∀ i j : Fin n, i < j → before c (sortedFrom (before c) j) (sortedFrom (before c) i) = false :=
    fun i j h => sortedFrom_noInversion (before c) (before c) (fun a b h => hB.asymm a b h) (fun _ _ h => h) hB.negTrans i j h
  constructor
  · intro h
    by_contra hn
    rcases lt_or_eq_of_le (not_lt.mp hn) with h' | h'
    · rw [key j i h'] at h; exact absurd h (by decide)
    · subst h'; rw [hB.irrefl] at h; exact absurd h (by decide)
  · intro h
    have hne : sortedFrom (before c) i ≠ sortedFrom (before c) j := fun e => (ne_of_lt h) (sortedFrom_injective _ e)
    rcases hB.total _ _ hne with h' | h'
    · exact h'
    · rw [key i j h] at h'; exact absurd h' (by decide)

/-- As many positions go before the one sorted to `r` as there are sorted positions below `r`. -/
theorem card_before {n : Nat} (c : Fin n → EReal) (r : Fin n) :
    (Finset.univ.filter fun j => before c j (sortedFrom (before c) r) = true).card = r.val := by
  have : (Finset.univ.filter fun j => before c j (sortedFrom (before c) r) = true) = (Finset.Iio r).image (sortedFrom (before c)) := by
    ext j
    obtain ⟨i, rfl⟩ := sortedFrom_surjective (before c) j
    simp only [Finset.mem_filter, Finset.mem_univ, true_and, before_sortedFrom, Finset.mem_image, Finset.mem_Iio]
    constructor
    · intro h; exact ⟨i, h, rfl⟩
    · rintro ⟨i', h, e⟩; rwa [← sortedFrom_injective _ e]
  rw [this, Finset.card_image_of_injective _ (sortedFrom_injective _), Fin.card_Iio]

/-- A position is sorted among the first `k` exactly when fewer than `k` go before it. -/
theorem mem_first_iff {n k : Nat} (hk : k ≤ n) (c : Fin n → EReal) (i : Fin n) :
    (∃ r : Fin k, sortedFrom (fun k k' => decide (c k' < c k)) (r.castLE hk) = i) ↔ (Finset.univ.filter fun j => before c j i = true).card < k := by
  simp only [sortedFrom_value]
  obtain ⟨r, rfl⟩ := sortedFrom_surjective (before c) i
  rw [card_before]
  constructor
  · rintro ⟨r', h⟩
    have := sortedFrom_injective _ h
    rw [← this]; exact r'.isLt
  · intro h; exact ⟨⟨r.val, h⟩, rfl⟩

/-! ## Repeated maximum -/

/-- The greatest of a column of values. -/
def great {n : Nat} (c : Fin n → EReal) : EReal := Finset.univ.fold max ⊥ c

/-- The greatest value is the supremum. -/
theorem great_eq_sup {n : Nat} (c : Fin n → EReal) : great c = Finset.univ.sup c := rfl

/-- Every value is at most the greatest. -/
theorem le_great {n : Nat} (c : Fin n → EReal) (e : Fin n) : c e ≤ great c := by
  rw [great_eq_sup]; exact Finset.le_sup (Finset.mem_univ e)

/-- The greatest value is taken somewhere. -/
theorem exists_great {n : Nat} (hn : 0 < n) (c : Fin n → EReal) : ∃ e, c e = great c := by
  haveI : Nonempty (Fin n) := ⟨⟨0, hn⟩⟩
  obtain ⟨e, _, h⟩ := Finset.exists_mem_eq_sup Finset.univ Finset.univ_nonempty c
  exact ⟨e, by rw [great_eq_sup, h]⟩

/-- The least expert of the greatest value. -/
theorem exists_least (c : Fin 64 → EReal) : ∃ e, c e = great c ∧ ∀ e', c e' = great c → e ≤ e' := by
  classical
  obtain ⟨e0, h0⟩ := exists_great (by decide) c
  have hne : (Finset.univ.filter fun e => c e = great c).Nonempty := ⟨e0, by simp [h0]⟩
  refine ⟨(Finset.univ.filter fun e => c e = great c).min' hne, ?_, fun e' h => ?_⟩
  · have := Finset.min'_mem _ hne
    simpa using this
  · exact Finset.min'_le _ _ (by simp [h])

/-- The expert a round picks. -/
def sel (c : Fin 64 → EReal) : Fin 64 := (exists_least c).choose

/-- The expert picked has the greatest value. -/
theorem sel_great (c : Fin 64 → EReal) : c (sel c) = great c := (exists_least c).choose_spec.1

/-- The expert picked is the least of those with the greatest value. -/
theorem sel_le (c : Fin 64 → EReal) (e : Fin 64) (h : c e = great c) : sel c ≤ e := (exists_least c).choose_spec.2 e h

/-- The values before round `r`: those picked so far at `-∞`. -/
def rest (c : Fin 64 → EReal) : Nat → Fin 64 → EReal
  | 0 => c
  | r + 1 => fun e => if e = sel (rest c r) then ⊥ else rest c r e

/-- The expert round `r` picks. -/
def pick (c : Fin 64 → EReal) (r : Nat) : Fin 64 := sel (rest c r)

/-- The values before round `r` are the first ones, with `-∞` at the experts picked so far. -/
theorem rest_eq (c : Fin 64 → EReal) (r : Nat) (e : Fin 64) : rest c r e = if ∃ i < r, e = pick c i then ⊥ else c e := by
  induction r with
  | zero => simp [rest]
  | succ r ih =>
    show (if e = pick c r then ⊥ else rest c r e) = _
    rw [ih]
    by_cases h : e = pick c r
    · rw [if_pos h, if_pos ⟨r, Nat.lt_succ_self r, h⟩]
    · rw [if_neg h]
      refine if_congr ⟨?_, ?_⟩ rfl rfl
      · rintro ⟨i, hi, he⟩; exact ⟨i, Nat.lt_succ_of_lt hi, he⟩
      · rintro ⟨i, hi, he⟩
        rcases Nat.lt_succ_iff_lt_or_eq.mp hi with h' | h'
        · exact ⟨i, h', he⟩
        · subst h'; exact absurd he h

/-- The values before a round are at most the first ones. -/
theorem rest_le (c : Fin 64 → EReal) (r : Nat) (e : Fin 64) : rest c r e ≤ c e := by
  rw [rest_eq]; split
  · exact bot_le
  · exact le_rfl

/-- While fewer experts are picked than have a value above `-∞`, a round finds a new one, and its own value. -/
theorem pick_spec (c : Fin 64 → EReal) (hc : 8 ≤ (Finset.univ.filter fun e => ⊥ < c e).card) (r : Nat) (hr : r < 8) :
    (∀ i < r, pick c r ≠ pick c i) ∧ great (rest c r) = c (pick c r) ∧ ⊥ < c (pick c r) := by
  classical
  have hex : ∃ e, ⊥ < c e ∧ ¬ ∃ i < r, e = pick c i := by
    by_contra hno
    push Not at hno
    have hsub : (Finset.univ.filter fun e => ⊥ < c e) ⊆ (Finset.range r).image (pick c) := by
      intro e he
      obtain ⟨i, hi, h⟩ := hno e (by simpa using he)
      exact Finset.mem_image.mpr ⟨i, Finset.mem_range.mpr hi, h.symm⟩
    have h1 := Finset.card_le_card hsub
    have h2 : ((Finset.range r).image (pick c)).card ≤ r := Finset.card_image_le.trans_eq (Finset.card_range r)
    omega
  obtain ⟨e, he, hn⟩ := hex
  have hpos : ⊥ < great (rest c r) := by
    refine lt_of_lt_of_le ?_ (le_great (rest c r) e)
    rw [rest_eq, if_neg hn]; exact he
  have hsel : rest c r (pick c r) = great (rest c r) := sel_great (rest c r)
  have hnot : ¬ ∃ i < r, pick c r = pick c i := by
    intro h
    rw [rest_eq, if_pos h] at hsel
    rw [← hsel] at hpos
    exact lt_irrefl _ hpos
  refine ⟨fun i hi h => hnot ⟨i, hi, h⟩, ?_⟩
  have hval : great (rest c r) = c (pick c r) := by rw [← hsel, rest_eq, if_neg hnot]
  exact ⟨hval, hval ▸ hpos⟩

/-- An expert not picked before round `r` and not in it comes after the one picked. -/
theorem pick_before (c : Fin 64 → EReal) (hc : 8 ≤ (Finset.univ.filter fun e => ⊥ < c e).card) (r : Nat) (hr : r < 8)
    (e : Fin 64) (hne : ∀ i ≤ r, e ≠ pick c i) : before c e (pick c r) = false := by
  rw [before_false_iff]
  obtain ⟨_, hg, _⟩ := pick_spec c hc r hr
  have he : rest c r e = c e := by
    rw [rest_eq, if_neg]; rintro ⟨i, hi, h⟩; exact hne i hi.le h
  have hle : c e ≤ c (pick c r) := by rw [← hg, ← he]; exact le_great _ e
  rintro (h | ⟨h, hlt⟩)
  · exact absurd hle (not_le.mpr h)
  · have := sel_le (rest c r) e (by rw [he, hg, h])
    exact absurd (lt_of_lt_of_le hlt this) (lt_irrefl _)

/-- The eight rounds pick what the sort puts at its first eight positions. -/
theorem sortedFrom_eq_pick (c : Fin 64 → EReal) (hc : 8 ≤ (Finset.univ.filter fun e => ⊥ < c e).card) (r : Fin 8) :
    sortedFrom (fun k k' => decide (c k' < c k)) (r.castLE (by decide : 8 ≤ 64)) = pick c r.val := by
  rw [sortedFrom_value]
  refine (before_total c).sortedFrom_eq_of_prefix (by decide) (fun r : Fin 8 => pick c r.val) ?_ ?_ ?_ r
  · have key : ∀ i j : Fin 8, i < j → pick c i.val ≠ pick c j.val := fun i j h e => (pick_spec c hc j.val j.isLt).1 i.val h e.symm
    intro i j h
    rcases lt_trichotomy i j with h' | h' | h'
    · exact absurd h (key i j h')
    · exact h'
    · exact absurd h.symm (key j i h')
  · intro i j hij
    exact pick_before c hc i.val i.isLt _ fun k hk => (pick_spec c hc j.val j.isLt).1 k (lt_of_le_of_lt hk hij)
  · intro i p hp
    exact pick_before c hc i.val i.isLt p fun k hk => (hp ⟨k, lt_of_le_of_lt hk i.isLt⟩).symm

end Cert.Route

end
-- ==== Proof.Gate.lean ====
/- The gate's values for one token as functions of its row of scores, and what the finiteness of the scores gives. -/
module

public import proofs.«01_k».proof.Proof.Route

@[expose] public section

noncomputable section

namespace Cert.Route

open Idealize.ShloMosaic

/-- The row's softmax. -/
def prob (s : Fin 64 → EReal) (e : Fin 64) : EReal :=
  Ideal.div (Ideal.exp (s e - great s)) (∑ x, Ideal.exp (s x - great s))

/-- Expert `a` of group `g`. -/
def expert (g a : Fin 8) : Fin 64 := ⟨8 * g.val + a.val, by omega⟩

/-- The group of an expert. -/
def group (e : Fin 64) : Fin 8 := ⟨e.val / 8, by omega⟩

/-- The greatest probability of each group. -/
def best (p : Fin 64 → EReal) (g : Fin 8) : EReal := great fun a : Fin 8 => p (expert g a)

/-- Group `g` is one of the four best. -/
def chosen (b : Fin 8 → EReal) (g : Fin 8) : Prop := (Finset.univ.filter fun j => before b j g = true).card < 4

/-- Whether a group is chosen can be decided. -/
instance (b : Fin 8 → EReal) (g : Fin 8) : Decidable (chosen b g) := inferInstanceAs (Decidable (_ < _))

/-- The probabilities of the four best groups' experts, `-∞` elsewhere. -/
def kept (p : Fin 64 → EReal) (e : Fin 64) : EReal := if chosen (best p) (group e) then p e else ⊥

/-- The expert the token's `r`-th choice goes to. -/
def choice (s : Fin 64 → EReal) (r : Nat) : Fin 64 := pick (kept (prob s)) r

/-- Some group is among the four best. -/
theorem exists_chosen (b : Fin 8 → EReal) : ∃ g, chosen b g :=
  ⟨sortedFrom (before b) 0, by unfold chosen; rw [card_before]; decide⟩

/-- A kept value is at most the probability. -/
theorem kept_le (p : Fin 64 → EReal) (e : Fin 64) : kept p e ≤ p e := by
  unfold kept; split
  · exact le_rfl
  · exact bot_le

/-- If every probability is above `-∞`, eight kept ones are. -/
theorem card_kept (p : Fin 64 → EReal) (hp : ∀ e, ⊥ < p e) : 8 ≤ (Finset.univ.filter fun e => ⊥ < kept p e).card := by
  classical
  obtain ⟨g, hg⟩ := exists_chosen (best p)
  have hinj : Function.Injective (expert g) := fun a b h => by
    have := congrArg Fin.val h
    simp only [expert] at this
    exact Fin.ext (by omega)
  have hsub : Finset.univ.image (expert g) ⊆ Finset.univ.filter fun e => ⊥ < kept p e := by
    intro e he
    obtain ⟨a, _, rfl⟩ := Finset.mem_image.mp he
    have : group (expert g a) = g := Fin.ext (by simp only [group, expert]; omega)
    simp only [Finset.mem_filter, Finset.mem_univ, true_and]
    unfold kept
    rw [this, if_pos hg]; exact hp _
  have := Finset.card_le_card hsub
  rwa [Finset.card_image_of_injective _ hinj, Finset.card_univ, Fintype.card_fin] at this

/-- A kept value above `-∞` is the probability itself. -/
theorem kept_eq (p : Fin 64 → EReal) (e : Fin 64) (h : ⊥ < kept p e) : kept p e = p e := by
  unfold kept at *
  split at h
  · rw [if_pos ‹_›]
  · exact absurd h (lt_irrefl _)

/-- Of finite scores the greatest is finite. -/
theorem great_coe (f : Fin 64 → ℝ) : ∃ M : ℝ, great (fun e => (f e : EReal)) = (M : EReal) := by
  obtain ⟨e, h⟩ := exists_great (by decide) fun e => (f e : EReal)
  exact ⟨f e, h.symm⟩

/-- A sum of real numbers is the same among the extended reals. -/
theorem coe_sum {n : Nat} (f : Fin n → ℝ) : (∑ x, (f x : EReal)) = ((∑ x, f x : ℝ) : EReal) :=
  (map_sum (⟨⟨Real.toEReal, rfl⟩, fun a b => EReal.coe_add a b⟩ : ℝ →+ EReal) _ _).symm

/-- The softmax of finite scores is above `-∞`. -/
theorem prob_pos (s : Fin 64 → EReal) (hs : ∀ e, ∃ x : ℝ, s e = (x : EReal)) (e : Fin 64) : ⊥ < prob s e := by
  choose f hf using hs
  obtain rfl : s = fun e => (f e : EReal) := funext hf
  obtain ⟨M, hM⟩ := great_coe f
  unfold prob
  rw [hM]
  have he : ∀ x, Ideal.exp ((f x : EReal) - (M : EReal)) = ((Real.exp (f x - M) : ℝ) : EReal) := fun x => by
    rw [← EReal.coe_sub]; rfl
  simp only [he]
  rw [coe_sum]
  have hpos : (0 : ℝ) < ∑ x : Fin 64, Real.exp (f x - M) := Finset.sum_pos (fun x _ => Real.exp_pos _) Finset.univ_nonempty
  rw [Ideal.div_coe hpos.ne', ← EReal.coe_mul]
  exact EReal.bot_lt_coe _

/-- A round's greatest value is the probability of the expert it picks, when the scores are finite. -/
theorem great_rest (s : Fin 64 → EReal) (hs : ∀ e, ∃ x : ℝ, s e = (x : EReal)) (r : Nat) (hr : r < 8) :
    great (rest (kept (prob s)) r) = prob s (choice s r) := by
  obtain ⟨_, h, hp⟩ := pick_spec _ (card_kept _ (prob_pos s hs)) r hr
  rw [h]
  exact kept_eq _ _ hp

end Cert.Route

end
-- ==== Proof.Column.lean ====
/- One token's column of a chunk at the idealized values: the kernel's softmax, group selection and eight rounds are the gate's functions of the column. -/
module

public import proofs.«01_k».proof.Proof.Chunk
public import proofs.«01_k».proof.Proof.Gate
public import Idealize.ShloMosaic.Lib.Pointwise
public import Idealize.ShloMosaic.Lib.SortNet.Extract
public import Idealize.ShloMosaic.Lib.Affine

@[expose] public section

noncomputable section

namespace Cert.Route

open Idealize.ShloMosaic

/-- The pattern of `-∞` is the least value. -/
theorem ofBits_bot : Ideal.ofBits FTy.f32 4286578688#32 = ⊥ := by simp [Ideal.ofBits, Ideal.ieee]

/-- The pattern of `+∞` is the greatest value. -/
theorem ofBits_top : Ideal.ofBits FTy.f32 2139095040#32 = ⊤ := by simp [Ideal.ofBits, Ideal.ieee]

/-- Adding up bits widened to words counts those that are set. -/
theorem fold_addi_bits {n : Nat} (S : Finset (Fin n)) (b : Fin n → Bool) :
    S.fold IntOp.addi 0#32 (fun x => BitVec.setWidth 32 (BitVec.ofBool (b x))) = BitVec.ofNat 32 (S.filter fun x => b x = true).card := by
  induction S using Finset.induction_on with
  | empty => simp
  | insert a S ha ih =>
    rw [Finset.fold_insert ha, ih, Finset.filter_insert]
    cases h : b a
    · simp [IntOp.addi]
    · rw [if_pos rfl, Finset.card_insert_of_notMem (by simp [ha]), Nat.add_comm, BitVec.ofNat_add]
      rfl

/-- The least number among the places where the greatest value is taken, 64 standing at the others, is the place `sel` names. -/
theorem fold_minsi_sel (c : Fin 64 → EReal) :
    Finset.univ.fold IntOp.minsi 2147483647#32 (fun x : Fin 64 => if c x = great c then BitVec.ofNat 32 x.val else 64#32) = BitVec.ofNat 32 (sel c).val := by
  have hint : ∀ x : Fin 64, (BitVec.ofNat 32 x.val).toInt = (x.val : Int) := by decide
  apply BitVec.eq_of_toInt_eq
  rw [← Finset.fold_hom (op' := min) (m := BitVec.toInt) SortNet.toInt_minsi, hint]
  apply le_antisymm
  · rw [Finset.fold_min_le]
    exact .inr ⟨sel c, Finset.mem_univ _, by rw [if_pos (sel_great c), hint]⟩
  · rw [Finset.le_fold_min]
    have hlt := (sel c).isLt
    refine ⟨?_, fun x _ => ?_⟩
    · have : (2147483647#32).toInt = 2147483647 := by decide
      rw [this]; omega
    · split
      · rw [hint]; exact_mod_cast sel_le c x ‹_›
      · have : (64#32).toInt = 64 := by decide
        rw [this]; omega

/-- A comparison of two of the experts' numbers as words. -/
theorem ofNat_eq_iff (a b : Fin 64) : (BitVec.ofNat 32 a.val = BitVec.ofNat 32 b.val) ↔ a = b := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

end Cert.Route

namespace Cert.KernelIdeal.Chunk

open Cert.KernelIdeal Cert.KernelIdeal.Gen Cert.Route Idealize.ShloMosaic Idealize.SL.Sem

/-- A token's column of a chunk. -/
def col (st : FVec Ideal S64x128 .f32) (t : Fin 128) (e : Fin 64) : EReal := st (ix2 e t)

/-- The softmax at an expert and a token is the probability of that token's column. -/
theorem soft_apply (st : FVec Ideal S64x128 .f32) (e : Fin 64) (t : Fin 128) : soft st (ix2 e t) = prob (col st t) e := by
  unfold prob great col
  rw [← ofBits_bot]
  pointwise [soft, expo]

/-- A round's value at a token is the greatest of its column. -/
theorem top_apply (st : FVec Ideal S64x128 .f32) (t : Fin 128) : top st (ix2 0 t) = great (col st t) := by
  unfold great col
  rw [← ofBits_bot]
  pointwise [top]

/-- A round's expert at a token is the one `sel` names, as a word. -/
theorem arg_apply (st : FVec Ideal S64x128 .f32) (t : Fin 128) : arg st (ix2 0 t) = BitVec.ofNat 32 (sel (col st t)).val := by
  rw [← fold_minsi_sel, ← top_apply]
  unfold col
  pointwise [arg, eidx]

/-- After a round the picked expert stands at `-∞` and the others as before. -/
theorem next_apply (st : FVec Ideal S64x128 .f32) (e : Fin 64) (t : Fin 128) :
    next st (ix2 e t) = if e = sel (col st t) then ⊥ else col st t e := by
  have : next st (ix2 e t) = Scalar.select (IntOp.cmpi .eq (BitVec.ofNat 32 e.val) (arg st (ix2 0 t))) (Ideal.ofBits .f32 4286578688#32) (st (ix2 e t)) := by
    pointwise [next, eidx]
  rw [this, arg_apply, ofBits_bot]
  exact if_congr (IntOp.cmpi_eq.trans (ofNat_eq_iff _ _)) rfl rfl

/-- The greatest probability of a group at a token. -/
theorem groupMax_apply (st : FVec Ideal S64x128 .f32) (g : Fin 8) (t : Fin 128) :
    groupMax (shapeCast S8x8x128 (soft st) shapeCasts_S64x128_S8x8x128) (ix2 g t) = best (prob (col st t)) g := by
  have : groupMax (shapeCast S8x8x128 (soft st) shapeCasts_S64x128_S8x8x128) (ix2 g t)
      = Finset.univ.fold max (Ideal.ofBits FTy.f32 4286578688#32) (fun a : Fin 8 => soft st (ix2 (expert g a) t)) := by
    unfold expert
    simp only [Nat.mul_comm 8]
    pointwise [groupMax]
  rw [this, ofBits_bot]
  simp only [soft_apply]
  rfl

/-- The rank of a group is the number of groups that go before it. -/
theorem rank_apply (g : FVec Ideal S8x128 .f32) (i : Fin 8) (t : Fin 128) :
    rank g (ix2 i t) = BitVec.ofNat 32 (Finset.univ.filter fun j => before (fun e => g (ix2 e t)) j i = true).card := by
  rw [← fold_addi_bits]
  have hb : ∀ x, beats g (ix3 i x t) = BitVec.ofBool (before (fun e => g (ix2 e t)) x i) := by
    intro x
    have : beats g (ix3 i x t) = IntOp.ori (BitVec.ofBool (decide (g (ix2 i t) < g (ix2 x t))))
        (IntOp.andi (BitVec.ofBool (decide (g (ix2 x t) = g (ix2 i t)))) (IntOp.cmpi .slt (BitVec.ofNat 32 x.val) (BitVec.ofNat 32 i.val))) := by
      pointwise [beats]
    have hslt : ∀ a b : Fin 8, IntOp.cmpi .slt (BitVec.ofNat 32 a.val) (BitVec.ofNat 32 b.val) = BitVec.ofBool (decide (a < b)) := by decide
    rw [this, hslt]
    unfold before
    generalize decide (g (ix2 i t) < g (ix2 x t)) = p
    generalize decide (g (ix2 x t) = g (ix2 i t)) = q
    generalize decide (x < i) = r
    revert p q r; decide
  simp only [← hb]
  pointwise [rank]

/-- The masked probabilities at a token are the gate's kept ones. -/
theorem masked_apply (st : FVec Ideal S64x128 .f32) (e : Fin 64) (t : Fin 128) : masked st (ix2 e t) = kept (prob (col st t)) e := by
  have : masked st (ix2 e t) = Scalar.select (IntOp.cmpi .slt
      (rank (groupMax (shapeCast S8x8x128 (soft st) shapeCasts_S64x128_S8x8x128)) (ix2 (group e) t)) 4#32) (soft st (ix2 e t)) (Ideal.ofBits .f32 4286578688#32) := by
    unfold group
    pointwise [masked]
  rw [this, rank_apply, ofBits_bot, soft_apply]
  simp only [groupMax_apply]
  unfold kept chosen Scalar.select
  have hslt : ∀ n : Nat, n ≤ 8 → (IntOp.cmpi .slt (BitVec.ofNat 32 n) 4#32 = 1#1 ↔ n < 4) := by decide
  have hn : (Finset.univ.filter fun j => before (best (prob (col st t))) j (group e) = true).card ≤ 8 :=
    (Finset.card_le_univ _).trans (by simp)
  have := hslt _ hn
  exact if_congr this rfl rfl

/-- What is left of a token's column after `r` rounds. -/
theorem col_left (st : FVec Ideal S64x128 .f32) (t : Fin 128) (r : Nat) : col (left st r) t = rest (kept (prob (col st t))) r := by
  induction r with
  | zero => funext e; exact masked_apply st e t
  | succ r ih =>
    funext e
    show next (left st r) (ix2 e t) = _
    rw [next_apply, ih]
    rfl

/-- The weight the chunk gives a token's `k`-th choice. -/
theorem wOut_apply (st : FVec Ideal S64x128 .f32) (t : Fin 128) (k : Fin 8) :
    wOut st (ix2 t k) = great (rest (kept (prob (col st t))) k.val) := by
  rw [← col_left, ← top_apply]
  fin_cases k <;> pointwise [wOut]

/-- The expert the chunk gives a token's `k`-th choice. -/
theorem iOut_apply (st : FVec Ideal S64x128 .f32) (t : Fin 128) (k : Fin 8) :
    iOut st (ix2 t k) = BitVec.ofNat 32 (choice (col st t) k.val).val := by
  unfold choice pick
  rw [← col_left, ← arg_apply]
  fin_cases k <;> pointwise [iOut]

/-- A chunk's column is a row of the block's scores. -/
theorem col_rows (s : FVec Ideal S2048x64 .f32) (o : Nat) (h : S2048x64.Slices ![o, 0] S128x64) (t : Fin 128) (ht : o + t.val < 2048) :
    col (rows s o h) t = fun e => s (ix2 ⟨o + t.val, ht⟩ e) := by
  funext e
  unfold col
  pointwise [rows]

/-- A block's score of a token against an expert. -/
theorem scores_apply (x0 : Vec Ideal S2048x1024 .f32) (x1 : Vec Ideal S1024x64 .f32) (t : Fin 2048) (e : Fin 64) :
    scores x0 x1 (ix2 t e) = ∑ d : Fin 1024, x0 (ix2 t d) * x1 (ix2 d e) := by
  pointwise [scores, k0_pay5]

end Cert.KernelIdeal.Chunk

end
-- ==== Proof.Block.lean ====
/- What one grid point leaves in its two result blocks: sixteen chunks of 128 tokens, each row the gate's values of that token's scores. -/
module

public import proofs.«01_k».proof.Proof.Column
public import Idealize.ShloMosaic.Lib.Pipeline.ValueKit

@[expose] public section

set_option maxRecDepth 16384

noncomputable section

namespace Cert.KernelIdeal.Chunk

open Cert.KernelIdeal Cert.KernelIdeal.Gen Cert.Route Idealize.ShloMosaic Idealize.SL.Sem

/-- The weight of a token's choice, from the block's scores. -/
def weightAt (s : FVec Ideal S2048x64 .f32) (y : S2048x8.Idx) : EReal := great (rest (kept (prob fun e => s (ix2 (y 0) e))) (y 1).val)

/-- The expert of a token's choice, from the block's scores. -/
def expertAt (s : FVec Ideal S2048x64 .f32) (y : S2048x8.Idx) : BitVec 32 := BitVec.ofNat 32 (choice (fun e => s (ix2 (y 0) e)) (y 1).val).val

/-- The chunk from row `o` on stores its weights where they belong. -/
theorem piece_weight (s : FVec Ideal S2048x64 .f32) (o : Nat) (h : S2048x64.Slices ![o, 0] S128x64) (x : S128x8.Idx) (y : S2048x8.Idx)
    (h0 : (y 0).val = o + (x 0).val) (h1 : (y 1).val = (x 1).val) : wOut (rows s o h) x = weightAt s y := by
  have ht : o + (x 0).val < 2048 := h0 ▸ (y 0).isLt
  have e0 : y 0 = ⟨o + (x 0).val, ht⟩ := Fin.ext h0
  rw [eq_ix2 x]
  refine (wOut_apply _ _ _).trans ?_
  rw [col_rows s o h (x 0) ht]
  unfold weightAt
  rw [h1, e0]
  rfl

/-- The chunk from row `o` on stores its experts where they belong. -/
theorem piece_expert (s : FVec Ideal S2048x64 .f32) (o : Nat) (h : S2048x64.Slices ![o, 0] S128x64) (x : S128x8.Idx) (y : S2048x8.Idx)
    (h0 : (y 0).val = o + (x 0).val) (h1 : (y 1).val = (x 1).val) : iOut (rows s o h) x = expertAt s y := by
  have ht : o + (x 0).val < 2048 := h0 ▸ (y 0).isLt
  have e0 : y 0 = ⟨o + (x 0).val, ht⟩ := Fin.ext h0
  rw [eq_ix2 x]
  refine (iOut_apply _ _ _).trans ?_
  rw [col_rows s o h (x 0) ht]
  unfold expertAt
  rw [h1, e0]
  rfl

/-- The block of weights a point leaves. -/
theorem out2_apply (x0 : Vec Ideal S2048x1024 .f32) (x1 : Vec Ideal S1024x64 .f32) (y : S2048x8.Idx) :
    out0_2 x0 x1 y = weightAt (scores x0 x1) y := by
  rw [out2_eq]
  generalize scores x0 x1 = s
  canon_tiles x h
  all_goals (refine piece_weight s _ _ x y ?_ ?_ <;> omega)

/-- The block of experts a point leaves. -/
theorem out3_apply (x0 : Vec Ideal S2048x1024 .f32) (x1 : Vec Ideal S1024x64 .f32) (y : S2048x8.Idx) :
    out0_3 x0 x1 y = expertAt (scores x0 x1) y := by
  rw [out3_eq]
  generalize scores x0 x1 = s
  canon_tiles x h
  all_goals (refine piece_expert s _ _ x y ?_ ?_ <;> omega)

end Cert.KernelIdeal.Chunk

end
-- ==== Proof.Array.lean ====
/- The kernel's two result arrays after the run: at every token and choice, the gate's values of the token's row of scores. -/
module

public import proofs.«01_k».proof.Proof.Block

@[expose] public section

set_option maxRecDepth 16384

noncomputable section

namespace Cert.Route

open Idealize.ShloMosaic

/-- A token's scores against the 64 experts. -/
def score (X : Vec Ideal ⟨2, ![32768, 1024]⟩ .f32) (W : Vec Ideal ⟨2, ![64, 1024]⟩ .f32) (T : Fin 32768) (e : Fin 64) : EReal :=
  ∑ d : Fin 1024, X (ix2 T d) * W (ix2 e d)

end Cert.Route

namespace Cert.KernelIdeal.Whole

open Cert.KernelIdeal Cert.KernelIdeal.Gen Cert.KernelIdeal.Chunk Cert.Route Idealize.ShloMosaic Idealize.ShloMosaic.TcCoe Idealize.SL.Sem
open Idealize.ShloMosaic.Pipeline (Dat)

variable (m : (ℓ : Loc nD τ sig) → Buf (Elt Ideal) ℓ)

/-- The weights' array. -/
def weights (c : Dev nD) : Buf (Elt Ideal) ((c : Thread nD τ).loc main_v0_0) := fun i : S32768x8.Idx =>
  great (rest (kept (prob (score (m ((c : Thread nD τ).loc main_arg0)) (m ((c : Thread nD τ).loc main_arg1)) (i 0)))) (i 1).val)

/-- The experts' array. -/
def experts (c : Dev nD) : Buf (Elt Ideal) ((c : Thread nD τ).loc main_v0_1) := fun i : S32768x8.Idx =>
  BitVec.ofNat 32 (choice (score (m ((c : Thread nD τ).loc main_arg0)) (m ((c : Thread nD τ).loc main_arg1)) (i 0)) (i 1).val).val

/-- The block each window takes at a grid point: the point's own of the tokens and of both results, the whole of the weight. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

/-- The second window's array is the weight transposed. -/
theorem V_transposed (c : Dev nD) : V m c main_call0_v0 = transpose S1024x64 [1, 0] (m ((c : Thread nD τ).loc main_arg1)) transposes_S64x1024_S1024x64_1_0 := by
  rfl

/-- A point's block of tokens. -/
theorem iblk_tokens (c : Dev nD) (t : Fin cfg0.N) (a : Fin 2048) (d : Fin 1024) (T : Fin 32768) (hT : T.val = t.val * 2048 + a.val) :
    iblk m c 0 t (ix2 a d) = m ((c : Thread nD τ).loc main_arg0) (ix2 T d) := by
  blk_ext [iblk, V_main_arg0, (idx t).1]

/-- A point's block of the transposed weight is all of it. -/
theorem iblk_weight (c : Dev nD) (t : Fin cfg0.N) (d : Fin 1024) (e : Fin 64) :
    iblk m c 1 t (ix2 d e) = m ((c : Thread nD τ).loc main_arg1) (ix2 e d) := by
  have h : iblk m c 1 t (ix2 d e) = V m c main_call0_v0 (ix2 d e) := by
    blk_ext [iblk, (idx t).2.1]
  rw [h, V_transposed]
  pointwise

/-- A point's scores are its tokens' scores. -/
theorem scores_iblk (c : Dev nD) (t : Fin cfg0.N) (a : Fin 2048) (T : Fin 32768) (hT : T.val = t.val * 2048 + a.val) :
    (fun e => scores (iblk m c 0 t) (iblk m c 1 t) (ix2 a e)) = score (m ((c : Thread nD τ).loc main_arg0)) (m ((c : Thread nD τ).loc main_arg1)) T := by
  funext e
  rw [scores_apply]
  unfold score
  refine Finset.sum_congr rfl fun d _ => ?_
  rw [iblk_tokens m c t a d T hT, iblk_weight]

/-- The weights after the run. -/
theorem final_weights (c : Dev nD) : (dats m 0 c).arrAt 2 cfg0.N = weights m c := by
  refine (dats m 0 c).arrAt_eq_of_covers 2 _ (by decide +kernel) fun t hf y => ?_
  blk_simp
  rw [after0_2, out2_apply]
  have h0 : (((win0_2.blk t).view.emb y) 0 : Nat) = t.val * 2048 + (y 0 : Nat) := by blk_simp [(idx t).2.2.1]
  have h1 : (((win0_2.blk t).view.emb y) 1 : Nat) = (y 1 : Nat) := by blk_simp [(idx t).2.2.1]
  unfold weights weightAt
  dsimp only
  rw [scores_iblk m c t (y 0) _ h0, h1]

/-- The experts after the run. -/
theorem final_experts (c : Dev nD) : (dats m 0 c).arrAt 3 cfg0.N = experts m c := by
  refine (dats m 0 c).arrAt_eq_of_covers 3 _ (by decide +kernel) fun t hf y => ?_
  blk_simp
  rw [after0_3, out3_apply]
  have h0 : (((win0_3.blk t).view.emb y) 0 : Nat) = t.val * 2048 + (y 0 : Nat) := by blk_simp [(idx t).2.2.2]
  have h1 : (((win0_3.blk t).view.emb y) 1 : Nat) = (y 1 : Nat) := by blk_simp [(idx t).2.2.2]
  unfold experts expertAt
  dsimp only
  rw [scores_iblk m c t (y 0) _ h0, h1]

end Cert.KernelIdeal.Whole

end
-- ==== Proof.RefRow.lean ====
/- The reference read at a token: its softmax, its chosen groups, its experts and its weights are the gate's functions of the token's row of scores. -/
module

public import proofs.«01_k».proof.Proof.RefTerms
public import proofs.«01_k».proof.Proof.Array
public import Idealize.ShloMosaic.Lib.Routing.OpsOrder

@[expose] public section

set_option maxRecDepth 16384

noncomputable section

namespace Cert.ReferenceIdeal.Gate

open Cert.ReferenceIdeal Cert.ReferenceIdeal.Gen Cert.Route Idealize.ShloMosaic Idealize.ShloMosaic.TcCoe Idealize.SL.Sem

/-- The place of a stable sort by value, greater first, along the rows of a matrix, where `top_k` finds its `r`-th index. -/
theorem topK_apply {N n k : Nat} (hk : k ≤ n) (x : (⟨2, ![N, n]⟩ : Shape).Idx → EReal)
    (h : (⟨2, ![N, n]⟩ : Shape).Slices (fun _ => 0) ⟨2, ![N, k]⟩) (T : Fin N) (r : Fin k) :
    (Host.topK ⟨2, ![N, k]⟩ 1 (FloatOps.cmpfTotal (F := Ideal) (φ := .f32) .gt) x h).2 (ix2 T r)
      = BitVec.ofNat 32 (sortedFrom (fun a b : Fin n => decide (x (ix2 T b) < x (ix2 T a))) (r.castLE hk)).val := by
  have hal : ∀ a : Fin n, Shape.Idx.along (s := ⟨2, ![N, n]⟩) (ix2 T (r.castLE hk)) (1 : Fin 2) a = ix2 T a := by
    intro a
    funext b
    match b with
    | ⟨0, _⟩ => rfl
    | ⟨1, _⟩ => rfl
  have hj : (fun a : Fin 2 => (⟨0 + ((ix2 T r : (⟨2, ![N, k]⟩ : Shape).Idx) (a.cast h.1.symm)).val,
      Nat.lt_of_lt_of_le (Nat.add_lt_add_left ((ix2 T r : (⟨2, ![N, k]⟩ : Shape).Idx) (a.cast h.1.symm)).isLt 0) (h.2 a)⟩ : Fin ((⟨2, ![N, n]⟩ : Shape).size a)))
      = ix2 T (r.castLE hk) := by
    funext b
    match b with
    | ⟨0, _⟩ => exact Fin.ext (Nat.zero_add _)
    | ⟨1, _⟩ => exact Fin.ext (Nat.zero_add _)
  have hc : (fun a b : Fin n => FloatOps.cmpfTotal (F := Ideal) (φ := .f32) .gt
      (x (Shape.Idx.along (s := ⟨2, ![N, n]⟩) (ix2 T (r.castLE hk)) (1 : Fin 2) a))
      (x (Shape.Idx.along (s := ⟨2, ![N, n]⟩) (ix2 T (r.castLE hk)) (1 : Fin 2) b)) == 1#1)
      = fun a b => decide (x (ix2 T b) < x (ix2 T a)) := by
    funext a b
    rw [hal, hal]
    show (BitVec.ofBool (decide (x (ix2 T b) < x (ix2 T a))) == 1#1) = _
    generalize decide (x (ix2 T b) < x (ix2 T a)) = q
    revert q; decide
  rw [← hc]
  unfold Host.topK extractStridedSlice
  dsimp only
  rw [hj]
  rfl

/-- A token's score against an expert. -/
theorem scores_apply (X : Vec Ideal S32768x1024 .f32) (W : Vec Ideal S64x1024 .f32) (T : Fin 32768) (e : Fin 64) :
    scores X W (ix2 T e) = score X W T e := by
  unfold score
  pointwise [scores]

/-- The greater of two arrays, entry by entry. -/
theorem maximumf_at {S : Shape} (a b : FVec Ideal S .f32) (i : S.Idx) : maximumf a b i = max (a i) (b i) := rfl

/-- The reduction by the maximum at a token, as a fold over its experts. -/
theorem rowMax_apply (s : FVec Ideal S32768x64 .f32) (T : Fin 32768) :
    Host.reduce FloatOps.maximumf s (constant S_ .f32 0xFF800000#32) reducesTo_S32768x64_S32768_d1 h_S_ (ix1 T)
      = Finset.univ.fold max (Ideal.ofBits FTy.f32 4286578688#32) fun x : Fin 64 => s (ix2 T x) := by
  pointwise

/-- The least value, spread over the tokens. -/
theorem least_apply (T : Fin 32768) :
    broadcastInDim S32768 ![] bcast_S_S32768 (constant (F := Ideal) S_ .f32 0xFF800000#32) (ix1 T) = Ideal.ofBits FTy.f32 4286578688#32 := by
  pointwise

/-- The greatest score of a token. -/
theorem greatest_apply (s : FVec Ideal S32768x64 .f32) (T : Fin 32768) : greatest s (ix1 T) = great fun x => s (ix2 T x) := by
  unfold greatest
  rw [maximumf_at, least_apply, rowMax_apply, ofBits_bot]
  exact max_eq_right bot_le

/-- The exponential of a score less the greatest of its row. -/
theorem expo_apply (s : FVec Ideal S32768x64 .f32) (T : Fin 32768) (e : Fin 64) :
    expo s (ix2 T e) = Ideal.exp (s (ix2 T e) - great fun x => s (ix2 T x)) := by
  rw [← greatest_apply]
  pointwise [expo]

/-- The softmax at a token and an expert is the probability of the token's row. -/
theorem soft_apply (s : FVec Ideal S32768x64 .f32) (T : Fin 32768) (e : Fin 64) :
    soft s (ix2 T e) = prob (fun x => s (ix2 T x)) e := by
  unfold prob
  simp only [← expo_apply]
  pointwise [soft]

/-- The greatest probability of a group. -/
theorem groupMax_apply (p : FVec Ideal S32768x64 .f32) (T : Fin 32768) (g : Fin 8) :
    groupMax p (ix2 T g) = Cert.Route.best (fun e => p (ix2 T e)) g := by
  unfold Cert.Route.best great expert
  rw [← ofBits_bot]
  simp only [Nat.mul_comm 8]
  pointwise [groupMax]

/-- A group is marked exactly when it is one of the listed ones. -/
theorem listed_apply (gi : IVec S32768x4 32) (T : Fin 32768) (g : Fin 8) :
    listed gi (ix2 T g) = 1#1 ↔ ∃ r : Fin 4, gi (ix2 T r) = BitVec.ofNat 32 g.val := by
  have : listed gi (ix2 T g) = Finset.univ.fold IntOp.ori 0#1 fun r : Fin 4 => IntOp.cmpi .eq (BitVec.ofNat 32 g.val) (gi (ix2 T r)) := by
    pointwise [listed]
  rw [this, Routing.fold_ori]
  simp only [Finset.mem_univ, true_and, IntOp.cmpi_eq]
  exact exists_congr fun r => eq_comm

/-- A probability stays where its group is marked and is `-∞` elsewhere. -/
theorem masked_apply (l : IVec S32768x8 1) (p : FVec Ideal S32768x64 .f32) (T : Fin 32768) (e : Fin 64) :
    masked l p (ix2 T e) = if l (ix2 T (group e)) = 1#1 then p (ix2 T e) else ⊥ := by
  have : masked l p (ix2 T e) = Scalar.select (l (ix2 T (group e))) (p (ix2 T e)) (Ideal.ofBits .f32 4286578688#32) := by
    unfold group
    pointwise [masked]
    rfl
  rw [this, ofBits_bot]
  rfl

/-- An expert's number is not negative, so wrapping leaves it. -/
theorem wrapped_apply (i : IVec S32768x8 32) (T : Fin 32768) (r : Fin 8) (e : Fin 64) (h : i (ix2 T r) = BitVec.ofNat 32 e.val) :
    wrapped i (ix3 T r 0) = BitVec.ofNat 32 e.val := by
  have : wrapped i (ix3 T r 0) = Scalar.select (IntOp.cmpi .slt (i (ix2 T r)) 0#32) (IntOp.addi (i (ix2 T r)) 64#32) (i (ix2 T r)) := by
    pointwise [wrapped]
  rw [this, h]
  clear this h
  revert e; decide

/-- An expert's number is inside the row. -/
theorem inside_apply (j : IVec S32768x8x1 32) (T : Fin 32768) (r : Fin 8) (e : Fin 64) (h : j (ix3 T r 0) = BitVec.ofNat 32 e.val) :
    inside j (ix2 T r) = 1#1 := by
  have : inside j (ix2 T r) = IntOp.andi (IntOp.cmpi .sge (j (ix3 T r 0)) 0#32) (IntOp.cmpi .sle (j (ix3 T r 0)) 63#32) := by
    pointwise [inside]
    rw [show (Finset.univ : Finset (Fin 1)) = {0} from rfl, Finset.fold_singleton]
    generalize IntOp.cmpi .sge (j (ix3 T r 0)) 0#32 = a
    generalize IntOp.cmpi .sle (j (ix3 T r 0)) 63#32 = b
    revert a b; decide
  rw [this, h]
  clear this h
  revert e; decide

/-- What the gather takes at an expert's number is that expert's entry of the same row. -/
theorem taken_apply (p : FVec Ideal S32768x64 .f32) (j : IVec S32768x8x1 32) (T : Fin 32768) (r : Fin 8) (e : Fin 64)
    (h : j (ix3 T r 0) = BitVec.ofNat 32 e.val) : taken p j (ix2 T r) = p (ix2 T e) := by
  unfold taken Host.gather
  congr 1
  funext a
  refine Fin.ext ?_
  show gather_S32768x64_S32768x8x1_S32768x8_n_1_0_0_1_2_11.start (ix2 T r) j a
    + gather_S32768x64_S32768x8x1_S32768x8_n_1_0_0_1_2_11.batchCoord (ix2 T r) a
    + gather_S32768x64_S32768x8x1_S32768x8_n_1_0_0_1_2_11.offCoord (ix2 T r) a = _
  have h01 : ∀ b : Fin 2, b = 0 ∨ b = 1 := by decide
  rcases h01 a with rfl | rfl
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    refine (dif_pos (List.mem_singleton.mpr rfl)).trans ?_
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    unfold GatherDims.start
    refine (congrArg (· + 0 + 0) (dif_pos (List.mem_singleton.mpr rfl))).trans ?_
    have hi : gather_S32768x64_S32768x8x1_S32768x8_n_1_0_0_1_2_11.siIdx (ix2 T r)
        ⟨List.idxOf (1 : Fin 2) gather_S32768x64_S32768x8x1_S32768x8_n_1_0_0_1_2_11.startIndexMap, List.idxOf_lt_length_iff.2 (List.mem_singleton.mpr rfl)⟩ = ix3 T r 0 := by
      funext b
      refine Fin.ext ?_
      match b with
      | ⟨0, _⟩ => rfl
      | ⟨1, _⟩ => rfl
      | ⟨2, _⟩ => rfl
    dsimp only
    rw [hi, h]
    have hv : ∀ e : Fin 64, min (BitVec.ofNat 32 e.val).toInt.toNat 63 = e.val := by decide
    exact hv e

/-- The weight at an expert's number is that expert's entry of the same row. -/
theorem weights_apply (p : FVec Ideal S32768x64 .f32) (j : IVec S32768x8x1 32) (T : Fin 32768) (r : Fin 8) (e : Fin 64)
    (h : j (ix3 T r 0) = BitVec.ofNat 32 e.val) : weights p j (ix2 T r) = p (ix2 T e) := by
  have : weights p j (ix2 T r) = Scalar.select (inside j (ix2 T r)) (taken p j (ix2 T r)) (Ideal.ofBits .f32 0x7FC00000#32) * Ideal.ofBits .f32 0x3F800000#32 := by
    pointwise [weights]
  rw [this, inside_apply j T r e h, taken_apply p j T r e h, Ideal.ofBits_one_f32, mul_one]
  rfl

end Cert.ReferenceIdeal.Gate

end
-- ==== Proof.RefValue.lean ====
/- The reference's two results at a token whose scores are finite: the gate's eight choices, and the softmax at them. -/
module

public import proofs.«01_k».proof.Proof.RefRow

@[expose] public section

set_option maxRecDepth 16384

noncomputable section

namespace Cert.ReferenceIdeal.Gate

open Cert.ReferenceIdeal Cert.ReferenceIdeal.Gen Cert.Route Idealize.ShloMosaic Idealize.ShloMosaic.TcCoe Idealize.SL.Sem

/-- The `r`-th group listed is the `r`-th of the sort by value. -/
theorem groups_apply (g : FVec Ideal S32768x8 .f32) (T : Fin 32768) (r : Fin 4) :
    groups g (ix2 T r) = BitVec.ofNat 32 (sortedFrom (fun a b : Fin 8 => decide (g (ix2 T b) < g (ix2 T a))) (r.castLE (by decide : 4 ≤ 8))).val :=
  topK_apply (by decide) g _ T r

/-- The `r`-th expert listed is the `r`-th of the sort by value. -/
theorem best_apply (q : FVec Ideal S32768x64 .f32) (T : Fin 32768) (r : Fin 8) :
    best q (ix2 T r) = BitVec.ofNat 32 (sortedFrom (fun a b : Fin 64 => decide (q (ix2 T b) < q (ix2 T a))) (r.castLE (by decide : 8 ≤ 64))).val :=
  topK_apply (by decide) q _ T r

/-- A group is listed exactly when it is one of the four best. -/
theorem listed_groups (g : FVec Ideal S32768x8 .f32) (T : Fin 32768) (i : Fin 8) :
    listed (groups g) (ix2 T i) = 1#1 ↔ chosen (fun a => g (ix2 T a)) i := by
  have hw : ∀ a b : Fin 8, BitVec.ofNat 32 a.val = BitVec.ofNat 32 b.val ↔ a = b := by decide
  rw [listed_apply]
  simp only [groups_apply, hw]
  exact mem_first_iff (by decide) (fun a => g (ix2 T a)) i

variable (m : (ℓ : Loc nD τ sig) → Buf (Elt Ideal) ℓ) (c : Dev nD)

/-- A token's scores under a launch's arguments. -/
abbrev row (T : Fin 32768) : Fin 64 → EReal := score (m ((c : Thread nD τ).loc main_arg0)) (m ((c : Thread nD τ).loc main_arg1)) T

/-- The reference's softmax at a token is the gate's probability. -/
theorem P_apply (T : Fin 32768) (e : Fin 64) : P m c (ix2 T e) = prob (row m c T) e := by
  unfold P
  rw [soft_apply]
  simp only [scores_apply]

/-- The masked probabilities are the gate's kept ones. -/
theorem kept_apply (T : Fin 32768) (e : Fin 64) :
    masked (listed (groups (groupMax (P m c)))) (P m c) (ix2 T e) = kept (prob (row m c T)) e := by
  rw [masked_apply]
  simp only [listed_groups, groupMax_apply, P_apply]
  rfl

/-- The reference's experts are the gate's choices. -/
theorem E_apply (T : Fin 32768) (hs : ∀ e, ∃ x : ℝ, row m c T e = (x : EReal)) (r : Fin 8) :
    E m c (ix2 T r) = BitVec.ofNat 32 (choice (row m c T) r.val).val := by
  unfold E
  rw [best_apply]
  simp only [kept_apply]
  rw [sortedFrom_eq_pick _ (card_kept _ (prob_pos _ hs))]
  rfl

/-- The reference's weights are the softmax at the gate's choices. -/
theorem W_apply (T : Fin 32768) (hs : ∀ e, ∃ x : ℝ, row m c T e = (x : EReal)) (r : Fin 8) :
    weights (P m c) (wrapped (E m c)) (ix2 T r) = prob (row m c T) (choice (row m c T) r.val) := by
  rw [weights_apply _ _ T r _ (wrapped_apply _ T r _ (E_apply m c T hs r)), P_apply]

end Cert.ReferenceIdeal.Gate

end
-- ==== Proof.Finite.lean ====
/- Finite arguments: what the precondition says of them, and that then every score is a real number. -/
module

public import proofs.«01_k».proof.Pre_finite
public import proofs.«01_k».proof.Proof.Array
public import Idealize.ShloMosaic.Lib.ReduceAll

@[expose] public section

set_option maxRecDepth 16384

noncomputable section

namespace Cert.Pre_finite

open Idealize.ShloMosaic Cert.Route

/-- The shapes of the precondition's operations agree. -/
theorem facts : Facts where
  bcast_S_S32768x1024 := by decide
  bcast_S_S64x1024 := by decide
  reducesTo_S32768x1024_S_d0_1 := by decide
  h_S_ := by decide
  reducesTo_S64x1024_S_d0_1 := by decide

/-- A value strictly between the two infinities is a real number. -/
theorem real_of_between (a : EReal) (h : IntOp.andi (Ideal.cmp .ogt a ⊥) (Ideal.cmp .olt a ⊤) = 1#1) : ∃ x : ℝ, a = (x : EReal) := by
  obtain ⟨h1, h2⟩ := IntOp.andi_eq_one.mp h
  induction a using EReal.rec with
  | bot => simp [Ideal.cmp] at h1
  | top => simp [Ideal.cmp] at h2
  | coe x => exact ⟨x, rfl⟩

/-- An array all of whose elements test strictly between the infinities has real elements. -/
theorem real_of_all {S u : Shape} (axes : List (Fin S.rank)) (x : FVec Ideal S .f32) (lo hi : FVec Ideal S .f32) (init : u.Idx → BitVec 1)
    (h : S.ReducesTo axes ⟨0, ![]⟩) (hu : 0 < u.numel) (j : (⟨0, ![]⟩ : Shape).Idx) (hlo : ∀ i, lo i = ⊥) (hhi : ∀ i, hi i = ⊤)
    (e : Host.reduce IntOp.andi (andi (cmpf .ogt x lo) (cmpf .olt x hi)) init h hu j = 1#1) (i : S.Idx) : ∃ r : ℝ, x i = (r : EReal) := by
  haveI : Subsingleton (⟨0, ![]⟩ : Shape).Idx := ⟨fun a b => funext fun k => k.elim0⟩
  have := Host.reduce_andi_all _ _ h hu j e i
  refine real_of_between (x i) ?_
  rw [← hlo i, ← hhi i]
  exact this

variable [Facts]

/-- Under the precondition both arguments have real elements. -/
theorem real_of_fn (X : FVec Ideal S32768x1024 .f32) (W : FVec Ideal S64x1024 .f32) (h : fn X W = fun _ => 1#1) :
    (∀ i, ∃ r : ℝ, X i = (r : EReal)) ∧ ∀ i, ∃ r : ℝ, W i = (r : EReal) := by
  have h0 := congrFun h (fun k => k.elim0)
  dsimp only [fn] at h0
  obtain ⟨h1, h2⟩ := IntOp.andi_eq_one.mp h0
  exact ⟨real_of_all _ X _ _ _ _ _ _ (fun _ => ofBits_bot) (fun _ => ofBits_top) h1,
    real_of_all _ W _ _ _ _ _ _ (fun _ => ofBits_bot) (fun _ => ofBits_top) h2⟩

end Cert.Pre_finite

namespace Cert.Route

open Idealize.ShloMosaic

/-- Of real arguments every score is real. -/
theorem score_real (X : Vec Ideal ⟨2, ![32768, 1024]⟩ .f32) (W : Vec Ideal ⟨2, ![64, 1024]⟩ .f32)
    (hX : ∀ i, ∃ r : ℝ, X i = (r : EReal)) (hW : ∀ i, ∃ r : ℝ, W i = (r : EReal)) (T : Fin 32768) (e : Fin 64) :
    ∃ r : ℝ, score X W T e = (r : EReal) := by
  choose f hf using hX
  choose g hg using hW
  refine ⟨∑ d : Fin 1024, f (ix2 T d) * g (ix2 e d), ?_⟩
  unfold score
  rw [← coe_sum]
  refine Finset.sum_congr rfl fun d _ => ?_
  rw [hf, hg, EReal.coe_mul]

end Cert.Route

end
-- ==== Proof.lean ====
/- The certificate: both runs' results as the gate's functions of each token's scores, set equal, and the frames. -/
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefValue
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel ends with its arguments unchanged and its counters at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- The reference's arguments end unchanged; it has no counters. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- A token's two rows of results agree: the kernel's rounds and the reference's sort, of the same scores, when these are real. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hX : m' ((c : Thread Cert.ReferenceIdeal.nD Cert.ReferenceIdeal.τ).loc Cert.ReferenceIdeal.main_arg0)
      = m ((c : Thread Cert.KernelIdeal.nD Cert.KernelIdeal.τ).loc Cert.KernelIdeal.main_arg0))
    (hW : m' ((c : Thread Cert.ReferenceIdeal.nD Cert.ReferenceIdeal.τ).loc Cert.ReferenceIdeal.main_arg1)
      = m ((c : Thread Cert.KernelIdeal.nD Cert.KernelIdeal.τ).loc Cert.KernelIdeal.main_arg1))
    (hs : ∀ T e, ∃ x : ℝ, Cert.ReferenceIdeal.Gate.row m' c T e = (x : EReal)) :
    Cert.ReferenceIdeal.Value.res_out0 m' c = Cert.KernelIdeal.Whole.weights m c
      ∧ Cert.ReferenceIdeal.Value.res_out1 m' c = Cert.KernelIdeal.Whole.experts m c := by
  have hr : ∀ T, Cert.ReferenceIdeal.Gate.row m' c T = Cert.Route.score (m ((c : Thread Cert.KernelIdeal.nD Cert.KernelIdeal.τ).loc Cert.KernelIdeal.main_arg0))
      (m ((c : Thread Cert.KernelIdeal.nD Cert.KernelIdeal.τ).loc Cert.KernelIdeal.main_arg1)) T := fun T => by
    unfold Cert.ReferenceIdeal.Gate.row
    rw [hX, hW]
  constructor
  · rw [Cert.ReferenceIdeal.Gate.out0_eq]
    funext i
    obtain ⟨T, r, rfl⟩ : ∃ (T : Fin 32768) (r : Fin 8), i = ix2 T r := ⟨i 0, i 1, eq_ix2 i⟩
    refine (Cert.ReferenceIdeal.Gate.W_apply m' c T (hs T) r).trans ?_
    rw [← Cert.Route.great_rest _ (hs T) _ r.isLt, hr]
    rfl
  · rw [Cert.ReferenceIdeal.Gate.out1_eq]
    funext i
    obtain ⟨T, r, rfl⟩ : ∃ (T : Fin 32768) (r : Fin 8), i = ix2 T r := ⟨i 0, i 1, eq_ix2 i⟩
    refine (Cert.ReferenceIdeal.Gate.E_apply m' c T (hs T) r).trans ?_
    rw [hr]
    rfl

/-- On finite arguments the kernel's weights and experts are the reference's. -/
theorem algebraic : Cert.algebraic_KernelIdeal_ReferenceIdeal_pre_finite (hPre_finite := Cert.Pre_finite.facts) := by
  intro m ρ m' ρ' hpre hagree
  have hs : ∀ (c : Dev Cert.KernelIdeal.nD) T e, ∃ x : ℝ, Cert.ReferenceIdeal.Gate.row m' c T e = (x : EReal) := fun c T e => by
    haveI := Cert.Pre_finite.facts
    obtain ⟨h0, h1⟩ := Cert.Pre_finite.real_of_fn _ _ (hpre c)
    unfold Cert.ReferenceIdeal.Gate.row
    rw [(hagree c).1, (hagree c).2]
    exact Cert.Route.score_real _ _ h0 h1 T e
  have he := fun c => results_eq m m' c (hagree c).1 (hagree c).2 (hs c)
  refine ⟨fun c => Cert.KernelIdeal.Whole.weights m c, fun c => Cert.KernelIdeal.Whole.experts m c, ?_, ?_⟩
  · exact (θ_run Cert.KernelIdeal.defs _ _).mono (fun _ h c => ⟨(h c).1.trans (Cert.KernelIdeal.Whole.final_weights m c),
      (h c).2.1.trans (Cert.KernelIdeal.Whole.final_experts m c), (h c).2.2⟩) (Cert.KernelIdeal.Value.run_blocks (F := Ideal) m ρ)
  · exact (θ_run Cert.ReferenceIdeal.defs _ _).mono (fun _ h c => ⟨(h c).1.trans (he c).1, (h c).2.1.trans (he c).2, (h c).2.2⟩)
      (Cert.ReferenceIdeal.Value.run (F := Ideal) m' ρ')

/-- The certificate's claims, all of them. -/
theorem claim : Cert.Claim := ⟨Cert.Kernel.Gen.facts, Cert.KernelIdeal.Gen.facts, Cert.ReferenceIdeal.Gen.facts, Cert.Pre_finite.facts,
  frame_kernel, frame_ideal, fun m ρ _ => frame_ideal m ρ trivial, frame_reference, fun m ρ _ => frame_reference m ρ trivial, trivial, algebraic⟩

end Cert.Proof

end
